-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.bf16_pack.Statement Cert.KernelIdeal.S2048x256

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S16384x1024 : Shape := ⟨2, ![16384, 1024]⟩
abbrev S_ : Shape := ⟨0, ![]⟩
abbrev S256x256 : Shape := ⟨2, ![256, 256]⟩
abbrev S2048x1024 : Shape := ⟨2, ![2048, 1024]⟩
abbrev S2048x256 : Shape := ⟨2, ![2048, 256]⟩
abbrev S2048x1 : Shape := ⟨2, ![2048, 1]⟩
abbrev S2048 : Shape := ⟨1, ![2048]⟩

abbrev nBuf : Space → Nat
  | .hbm => 13
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S_, .bf16⟩
  | .hbm, ⟨2, _⟩ => ⟨S256x256, .bf16⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .bf16⟩
  | .hbm, ⟨10, _⟩ => ⟨S256x256, .bf16⟩
  | .hbm, ⟨11, _⟩ => ⟨S256x256, .bf16⟩
  | .hbm, ⟨12, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S256x256, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16384x1024 : Shape := ⟨2, ![16384, 1024]⟩
abbrev S_ : Shape := ⟨0, ![]⟩
abbrev S16384 : Shape := ⟨1, ![16384]⟩
abbrev S1024x16384 : Shape := ⟨2, ![1024, 16384]⟩
abbrev S1x16384 : Shape := ⟨2, ![1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S16384, .f32⟩
  | .hbm, ⟨3, _⟩ => ⟨S1024x16384, .f32⟩
  | .hbm, ⟨4, _⟩ => ⟨S_, .f32⟩
  | .hbm, ⟨5, _⟩ => ⟨S1024x16384, .f32⟩
  | .hbm, ⟨6, _⟩ => ⟨S_, .i32⟩
  | .hbm, ⟨7, _⟩ => ⟨S1024x16384, .f32⟩
  | .hbm, ⟨8, _⟩ => ⟨S_, .i32⟩
  | .hbm, ⟨9, _⟩ => ⟨S16384, .f32⟩
  | .hbm, ⟨10, _⟩ => ⟨S1024x16384, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x16384, .f32⟩
  | .hbm, ⟨15, _⟩ => ⟨S16384, .f32⟩
  | .hbm, ⟨16, _⟩ => ⟨S16384, .f32⟩
  | .hbm, ⟨17, _⟩ => ⟨S1x16384, .f32⟩
  | .hbm, ⟨18, _⟩ => ⟨S_, .i32⟩
  | .hbm, ⟨19, _⟩ => ⟨S1024x16384, .f32⟩
  | .hbm, ⟨20, _⟩ => ⟨S_, .i32⟩
  | .hbm, ⟨21, _⟩ => ⟨S_, .i32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v5 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v5 : Ref sig .tc := ⟨.hbm, 15, rfl⟩
abbrev main_while0b_v6 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v7 : Ref sig .tc := ⟨.hbm, 19, rfl⟩
abbrev main_while0b_c_4 : Ref sig .tc := ⟨.hbm, 20, rfl⟩
abbrev main_while0b_v8 : Ref sig .tc := ⟨.hbm, 21, rfl⟩
abbrev main_v4 : Ref sig .tc := ⟨.hbm, 22, rfl⟩

abbrev nD : Nat := 1
abbrev τ : Topo := Topo.v7x

variable {F : FTy → Type} [FloatOps F]

abbrev main_while0_count : Scf.Loop 32 := ⟨0#32, 1024#32, 1#32⟩
-- ==== Proof.Scalar.lean ====
/- The arithmetic of one row of the running product, on extended reals: the base-two logarithm of an absolute value turns a product
   of absolute values into a sum, the count of negative factors carries the sign, and the two together give back the product.
   No program is mentioned here. -/
module

public import Idealize.ShloMosaic.PureOps.Ideal.Laws
public import Idealize.ShloMosaic.Lib.ValueIdxCore
public import Idealize.ShloMosaic.Lib.Pointwise

@[expose] public section

noncomputable section

namespace Cert.Scalar

open Idealize.ShloMosaic
open scoped BigOperators

/-- The constant that turns a natural logarithm into one to base two. -/
abbrev perLog2 : EReal := (((Real.log 2)⁻¹ : ℝ) : EReal)

/-- The base-two logarithm of the absolute value, as the kernel forms it (its floor is minus infinity here). -/
def lg (x : EReal) : EReal := max (Ideal.log (max x (-x)) * perLog2) ⊥

/-- One for a negative number, zero for any other. -/
def neg (x : EReal) : EReal := if x < 0 then 1 else 0

/-- The number with magnitude `2 ^ s` and the sign that the parity of the count `n` gives, as the kernel forms it. -/
def signed (s n : EReal) : EReal :=
  Scalar.select (IntOp.cmpi .ne (IntOp.shli .vector (IntOp.andi (Ideal.fptosi 32 n) 1#32) 31#32) 0#32) (0 - Ideal.exp2 s) (Ideal.exp2 s)

/-- A number is finite when its absolute value is below plus infinity. -/
abbrev IsFin (x : EReal) : Prop := ∃ r : ℝ, x = (r : EReal)

/-- The logarithm of zero is minus infinity. -/
theorem lg_zero : lg ((0 : ℝ) : EReal) = ⊥ := by
  simp only [lg, EReal.coe_zero, neg_zero, max_self]
  rw [show (0 : EReal) = ((0 : ℝ) : EReal) from rfl, Ideal.log_coe, if_pos le_rfl, EReal.bot_mul_coe_of_pos (inv_pos.mpr (Real.log_pos one_lt_two))]
  exact max_self _

/-- The logarithm of a nonzero real is the real logarithm to base two of its absolute value. -/
theorem lg_coe {r : ℝ} (h : r ≠ 0) : lg (r : EReal) = ((Real.log |r| * (Real.log 2)⁻¹ : ℝ) : EReal) := by
  have habs : max (r : EReal) (-(r : EReal)) = ((|r| : ℝ) : EReal) := by
    rw [← EReal.coe_neg]; exact (EReal.coe_strictMono.monotone.map_max (a := r) (b := -r)).symm
  rw [lg, habs, Ideal.log_coe, if_neg (not_le.mpr (abs_pos.mpr h)), max_eq_left bot_le, ← EReal.coe_mul]

/-- The logarithm of a finite number is not plus infinity. -/
theorem lg_ne_top {x : EReal} (hx : IsFin x) : lg x ≠ ⊤ := by
  obtain ⟨r, rfl⟩ := hx
  by_cases h : r = 0
  · subst h; rw [lg_zero]; exact bot_ne_top
  · rw [lg_coe h]; exact EReal.coe_ne_top _

/-- Two to the logarithm is the absolute value. -/
theorem exp2_lg (r : ℝ) : Ideal.exp2 (lg (r : EReal)) = ((|r| : ℝ) : EReal) := by
  by_cases h : r = 0
  · subst h; rw [lg_zero, Ideal.exp2_bot, abs_zero]; rfl
  · rw [lg_coe h, Ideal.exp2_coe]
    refine congrArg _ ((Real.rpow_def_of_pos two_pos _).trans ?_)
    rw [mul_comm, mul_assoc, inv_mul_cancel₀ (Real.log_pos one_lt_two).ne', mul_one, Real.exp_log (abs_pos.mpr h)]

/-- Away from plus infinity, two to a sum is the product of the powers. -/
theorem exp2_add {a b : EReal} (ha : a ≠ ⊤) (hb : b ≠ ⊤) : Ideal.exp2 (a + b) = Ideal.exp2 a * Ideal.exp2 b := by
  induction a with
  | bot => rw [EReal.bot_add, Ideal.exp2_bot, zero_mul]
  | top => exact absurd rfl ha
  | coe a =>
    induction b with
    | bot => rw [EReal.add_bot, Ideal.exp2_bot, mul_zero]
    | top => exact absurd rfl hb
    | coe b =>
      rw [← EReal.coe_add, Ideal.exp2_coe, Ideal.exp2_coe, Ideal.exp2_coe, ← EReal.coe_mul]
      exact congrArg _ (Real.rpow_add two_pos a b)

/-- The kernel's split of a logarithm into a high part and a remainder, both weighted, adds up to the weighted logarithm. -/
theorem split_weight {a u : EReal} (ha : a ≠ ⊤) (hu : u = 0 ∨ u = 1) : a * u + (a - a) * u = a * u := by
  rcases hu with rfl | rfl
  · simp
  · rw [mul_one, mul_one]
    induction a with
    | bot => rw [EReal.bot_add]
    | top => exact absurd rfl ha
    | coe a => rw [← EReal.coe_sub, sub_self, EReal.coe_zero, add_zero]

/-- A sum over 256 places weighted by "not after place `j`" is the sum over the places up to `j`. -/
theorem sum_weight (f : ℕ → EReal) (j : Fin 256) :
    ∑ k : Fin 256, f k.val * (if k.val ≤ j.val then 1 else 0) = ∑ k ∈ Finset.range (j.val + 1), f k := by
  rw [Fin.sum_univ_eq_sum_range (fun k => f k * (if k ≤ j.val then (1 : EReal) else 0)) 256]
  have hsub : Finset.range (j.val + 1) ⊆ Finset.range 256 := Finset.range_mono (by omega)
  rw [← Finset.sum_subset hsub]
  · refine Finset.sum_congr rfl fun k hk => ?_
    rw [if_pos (by have := Finset.mem_range.mp hk; omega), mul_one]
  · intro k _ hk
    rw [if_neg (fun h => hk (Finset.mem_range.mpr (by omega))), mul_zero]

/-- A sum of logarithms of finite numbers is not plus infinity. -/
theorem sum_lg_ne_top (f : ℕ → EReal) (n : ℕ) (hf : ∀ k < n, IsFin (f k)) : ∑ k ∈ Finset.range n, lg (f k) ≠ ⊤ := by
  induction n with
  | zero => simp
  | succ n ih =>
    rw [Finset.sum_range_succ]
    exact EReal.add_ne_top (ih fun k hk => hf k (by omega)) (lg_ne_top (hf n (by omega)))

/-- The word of a count below 2048, its lowest bit moved to the top, is nonzero exactly when the count is odd. -/
theorem word_odd (n : ℕ) (hn : n < 2048) :
    IntOp.cmpi .ne (IntOp.shli .vector (IntOp.andi (Ideal.fptosi 32 (((n : ℝ) : EReal))) 1#32) 31#32) 0#32 = BitVec.ofBool (decide (n % 2 = 1)) := by
  have h1 : Ideal.fptosi 32 (((n : ℝ) : EReal)) = BitVec.ofNat 32 n := by
    rw [Ideal.fptosi, Ideal.toIntClamped_coe, if_pos (Nat.cast_nonneg n), Int.floor_natCast]
    rw [min_eq_right (by norm_num; omega), max_eq_right (by norm_num)]
    exact BitVec.ofInt_natCast 32 n
  rw [h1]
  have h2 : ∀ n : Fin 2048, IntOp.cmpi .ne (IntOp.shli .vector (IntOp.andi (BitVec.ofNat 32 n.val) 1#32) 31#32) 0#32 = BitVec.ofBool (decide (n.val % 2 = 1)) := by
    decide +kernel
  exact h2 ⟨n, hn⟩

/-- How many of the first `n` numbers are negative. -/
def negs (f : ℕ → EReal) (n : ℕ) : ℕ := ((Finset.range n).filter fun k => f k < 0).card

/-- The sum of the markers is that count. -/
theorem sum_neg (f : ℕ → EReal) (n : ℕ) : ∑ k ∈ Finset.range n, neg (f k) = (((negs f n : ℕ) : ℝ) : EReal) := by
  induction n with
  | zero => simp [negs]
  | succ n ih =>
    rw [Finset.sum_range_succ, ih]
    have hs : negs f (n + 1) = negs f n + (if f n < 0 then 1 else 0) := by
      unfold negs
      rw [Finset.range_add_one, Finset.filter_insert]
      split
      · rw [Finset.card_insert_of_notMem (by simp)]
      · rfl
    have hv : neg (f n) = (((if f n < 0 then 1 else 0 : ℕ) : ℝ) : EReal) := by
      unfold neg
      by_cases h : f n < 0
      · rw [if_pos h, if_pos h]; simp
      · rw [if_neg h, if_neg h]; simp
    rw [hs, hv, Nat.cast_add, EReal.coe_add]

/-- The count never exceeds the length. -/
theorem negs_le (f : ℕ → EReal) (n : ℕ) : negs f n ≤ n := by
  unfold negs
  exact (Finset.card_filter_le _ _).trans (by simp)

/-- The running product of finite numbers: magnitude from the sum of the logarithms, sign from the parity of the count. -/
theorem prod_eq (f : ℕ → EReal) (n : ℕ) (hf : ∀ k < n, IsFin (f k)) :
    ∏ k ∈ Finset.range n, f k
      = if negs f n % 2 = 1 then 0 - Ideal.exp2 (∑ k ∈ Finset.range n, lg (f k)) else Ideal.exp2 (∑ k ∈ Finset.range n, lg (f k)) := by
  obtain ⟨g, hg⟩ : ∃ g : ℕ → ℝ, ∀ k < n, f k = (g k : EReal) :=
    ⟨fun k => (f k).toReal, fun k hk => by obtain ⟨r, hr⟩ := hf k hk; simp only [hr, EReal.toReal_coe]⟩
  have key : ∀ m ≤ n, ∏ k ∈ Finset.range m, f k = ((∏ k ∈ Finset.range m, g k : ℝ) : EReal)
      ∧ Ideal.exp2 (∑ k ∈ Finset.range m, lg (f k)) = ((|∏ k ∈ Finset.range m, g k| : ℝ) : EReal)
      ∧ ∏ k ∈ Finset.range m, g k = (if negs f m % 2 = 1 then -|∏ k ∈ Finset.range m, g k| else |∏ k ∈ Finset.range m, g k|) := by
    intro m
    induction m with
    | zero =>
      intro _
      refine ⟨by simp, ?_, by simp [negs]⟩
      rw [Finset.sum_range_zero, Finset.prod_range_zero, abs_one, show (0 : EReal) = ((0 : ℝ) : EReal) from rfl, Ideal.exp2_coe]
      exact congrArg _ (Real.rpow_zero 2)
    | succ m ih =>
      intro hm
      obtain ⟨h1, h2, h3⟩ := ih (by omega)
      refine ⟨?_, ?_, ?_⟩
      · rw [Finset.prod_range_succ, Finset.prod_range_succ, h1, hg m (by omega), EReal.coe_mul]
      · rw [Finset.sum_range_succ, exp2_add (sum_lg_ne_top f m fun k hk => hf k (by omega)) (lg_ne_top (hf m (by omega))), h2,
          hg m (by omega), exp2_lg, Finset.prod_range_succ, abs_mul, EReal.coe_mul]
      · have hs : negs f (m + 1) = negs f m + (if f m < 0 then 1 else 0) := by
          unfold negs
          rw [Finset.range_add_one, Finset.filter_insert]
          split
          · rw [Finset.card_insert_of_notMem (by simp)]
          · rfl
        rw [hs, Finset.prod_range_succ, abs_mul]
        by_cases hneg : g m < 0
        · have : f m < 0 := by rw [hg m (by omega)]; exact_mod_cast hneg
          rw [if_pos this, abs_of_neg hneg]
          by_cases hp : negs f m % 2 = 1
          · rw [if_neg (by omega)]; rw [if_pos hp] at h3
            rw [mul_neg, ← neg_mul, ← h3]
          · rw [if_pos (by omega)]; rw [if_neg hp] at h3
            rw [mul_neg, neg_neg, ← h3]
        · have : ¬ f m < 0 := by rw [hg m (by omega)]; exact_mod_cast hneg
          rw [if_neg this, abs_of_nonneg (not_lt.mp hneg), add_zero]
          by_cases hp : negs f m % 2 = 1
          · rw [if_pos hp]; rw [if_pos hp] at h3
            rw [← neg_mul, ← h3]
          · rw [if_neg hp]; rw [if_neg hp] at h3
            rw [← h3]
  obtain ⟨h1, h2, h3⟩ := key n le_rfl
  rw [h1, h2, zero_sub]
  split
  · rename_i hp; rw [if_pos hp] at h3
    rw [← EReal.coe_neg, ← h3]
  · rename_i hp; rw [if_neg hp] at h3
    rw [← h3]

/-- WHAT THE KERNEL'S LAST STEP GIVES: from the sum of the logarithms and the sum of the markers of at most 1024 finite numbers,
    their product. -/
theorem signed_sums (f : ℕ → EReal) (n : ℕ) (hn : n ≤ 1024) (hf : ∀ k < n, IsFin (f k)) :
    signed (∑ k ∈ Finset.range n, lg (f k)) (∑ k ∈ Finset.range n, neg (f k)) = ∏ k ∈ Finset.range n, f k := by
  have hle := negs_le f n
  rw [prod_eq f n hf, signed, sum_neg, word_odd _ (by omega)]
  by_cases h : negs f n % 2 = 1
  · rw [if_pos h, decide_eq_true h]; rfl
  · rw [if_neg h, decide_eq_false h]; rfl

end Cert.Scalar

end
-- ==== Proof.Block.lean ====
/- What the kernel computes on one block: on 2048 rows of 1024 finite numbers, with the triangular table of ones as its second
   input, every place of the block's result is the product of the row's numbers up to that place. The four chunks of 256 columns
   share the lemmas; a chunk hands the next its last column of sums. -/
module

public import proofs.«01_k».proof.Proof.Gen.KernelIdeal.Frame
public import proofs.«01_k».proof.Proof.Scalar
public import Idealize.ShloMosaic.Lib.Pointwise
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen Cert.Scalar
open scoped BigOperators

/-! ## The named constants, and the table -/

/-- The named constant of the scale is one over the logarithm of two. -/
theorem named_log2e : (Named.named κ "log2e" 0x3FB8AA3B#32 : Ideal .f32) = perLog2 := rfl

/-- The named constant of the floor is minus infinity. -/
theorem named_mask : (Named.named κ "mask" 0xF149F2CA#32 : Ideal .f32) = (⊥ : EReal) := rfl

/-- The table is triangular: one at and above the diagonal, zero below it. -/
def Tri (u : FVec Ideal S256x256 .bf16) : Prop := ∀ k j : Fin 256, u (ix2 k j) = if k.val ≤ j.val then (1 : EReal) else 0

/-! ## One chunk: the sums along a row -/

/-- The numbers of row `r` of a chunk by place; past the end, one. -/
def row (x : Vec Ideal S2048x256 .f32) (r : Fin 2048) (k : ℕ) : EReal := if h : k < 256 then x (ix2 r ⟨k, h⟩) else 1

/-- At a place of the chunk it is the chunk's number. -/
theorem row_val (x : Vec Ideal S2048x256 .f32) (r : Fin 2048) (k : Fin 256) : row x r k.val = x (ix2 r k) := by
  unfold row; rw [dif_pos k.isLt]

/-- Both products with the table together: the sum of the logarithms up to the place. -/
theorem sums_lg (u : FVec Ideal S256x256 .bf16) (hu : Tri u) (x : Vec Ideal S2048x256 .f32) (hx : ∀ i, IsFin (x i)) (r : Fin 2048) (j : Fin 256) :
    (∑ k : Fin 256, lg (x (ix2 r k)) * u (ix2 k j)) + ∑ k : Fin 256, (lg (x (ix2 r k)) - lg (x (ix2 r k))) * u (ix2 k j)
      = ∑ k ∈ Finset.range (j.val + 1), lg (row x r k) := by
  rw [← Finset.sum_add_distrib, ← sum_weight (fun k => lg (row x r k)) j]
  refine Finset.sum_congr rfl fun k _ => ?_
  have h01 : u (ix2 k j) = 0 ∨ u (ix2 k j) = (1 : EReal) := by rw [hu k j]; split <;> simp
  rw [split_weight (lg_ne_top (hx _)) h01, hu k j, row_val]

/-- The product of the markers with the table: the number of negative numbers up to the place. -/
theorem sums_neg (u : FVec Ideal S256x256 .bf16) (hu : Tri u) (x : Vec Ideal S2048x256 .f32) (r : Fin 2048) (j : Fin 256) :
    (∑ k : Fin 256, neg (x (ix2 r k)) * u (ix2 k j)) = ∑ k ∈ Finset.range (j.val + 1), neg (row x r k) := by
  rw [← sum_weight (fun k => neg (row x r k)) j]
  refine Finset.sum_congr rfl fun k _ => ?_
  rw [hu k j, row_val]

variable (u : FVec Ideal S256x256 .bf16) (hu : Tri u) (x : Vec Ideal S2048x256 .f32) (hx : ∀ i, IsFin (x i)) (r : Fin 2048) (j : Fin 256)

/-- The table passes through its reshape unchanged. -/
theorem pay1_eq : k0_pay1 u = u := by
  funext i; idx_vars i; pointwise [k0_pay1]

include hu hx in
/-- The first chunk's sums of logarithms. -/
theorem pay2_at : k0_pay2 u x (ix2 r j) = ∑ k ∈ Finset.range (j.val + 1), lg (row x r k) := by
  pointwise [k0_pay2, k0_pay1]
  exact sums_lg u hu x hx r j

include hu in
/-- The first chunk's counts. -/
theorem pay3_at : k0_pay3 u x (ix2 r j) = ∑ k ∈ Finset.range (j.val + 1), neg (row x r k) := by
  pointwise [k0_pay3, k0_pay1]
  exact sums_neg u hu x r j

include hu hx in
/-- A later chunk's sums of logarithms: what the chunk before handed on is added. -/
theorem pay7_at (b : FVec Ideal S2048 .f32) :
    k0_pay7 u b x (ix2 r j) = (∑ k ∈ Finset.range (j.val + 1), lg (row x r k)) + b (ix1 r) := by
  pointwise [k0_pay7]
  exact congrArg (fun v : EReal => v + b (ix1 r)) (sums_lg u hu x hx r j)

include hu in
/-- A later chunk's counts: what the chunk before handed on is added. -/
theorem pay8_at (b : FVec Ideal S2048 .f32) :
    k0_pay8 u b x (ix2 r j) = (∑ k ∈ Finset.range (j.val + 1), neg (row x r k)) + b (ix1 r) := by
  pointwise [k0_pay8]
  exact congrArg (fun v : EReal => v + b (ix1 r)) (sums_neg u hu x r j)

/-! ## One chunk: what it hands on, and what it stores -/

/-- The first chunk hands on the last column of its sums. -/
theorem pay4_at : k0_pay4 u x (ix1 r) = k0_pay2 u x (ix2 r 255) := by pointwise [k0_pay4]
/-- The first chunk hands on the last column of its counts. -/
theorem pay5_at : k0_pay5 u x (ix1 r) = k0_pay3 u x (ix2 r 255) := by pointwise [k0_pay5]
/-- A later chunk hands on the last column of its sums. -/
theorem pay9_at (b : FVec Ideal S2048 .f32) : k0_pay9 u b x (ix1 r) = k0_pay7 u b x (ix2 r 255) := by pointwise [k0_pay9]
/-- A later chunk hands on the last column of its counts. -/
theorem pay10_at (b : FVec Ideal S2048 .f32) : k0_pay10 u b x (ix1 r) = k0_pay8 u b x (ix2 r 255) := by pointwise [k0_pay10]

/-- The first chunk stores the signed power. -/
theorem pay6_at : k0_pay6 u x (ix2 r j) = signed (k0_pay2 u x (ix2 r j)) (k0_pay3 u x (ix2 r j)) := by
  pointwise [k0_pay6]; rfl
/-- A later chunk stores the signed power. -/
theorem pay11_at (b d : FVec Ideal S2048 .f32) :
    k0_pay11 u b d x (ix2 r j) = signed (k0_pay7 u b x (ix2 r j)) (k0_pay8 u d x (ix2 r j)) := by
  pointwise [k0_pay11]; rfl

/-- The third chunk hands on and stores as the second does. -/
theorem pay14_eq (b : FVec Ideal S2048 .f32) : k0_pay14 u b x = k0_pay9 u b x := rfl
theorem pay15_eq (b : FVec Ideal S2048 .f32) : k0_pay15 u b x = k0_pay10 u b x := rfl
theorem pay19_eq (b d : FVec Ideal S2048 .f32) :
    k0_pay19 (k0_pay16 u b x) (k0_pay17 u d x) (k0_pay18 u b x) = k0_pay11 u b d x := rfl
/-- The last chunk stores as the second does. -/
theorem pay20_eq (b d : FVec Ideal S2048 .f32) : k0_pay20 u b d x = k0_pay11 u b d x := rfl

/-! ## The block -/

/-- The numbers of row `r` of the block by place; past the end, one. -/
def wide (x0 : Vec Ideal S2048x1024 .f32) (r : Fin 2048) (k : ℕ) : EReal := if h : k < 1024 then x0 (ix2 r ⟨k, h⟩) else 1

/-- The chunk loaded from column `o` on. -/
theorem row_ld (x0 : Vec Ideal S2048x1024 .f32) (y : Vec Ideal S2048x256 .f32) (o : ℕ) (ho : o + 256 ≤ 1024)
    (hy : ∀ (r : Fin 2048) (k : Fin 256), y (ix2 r k) = x0 (ix2 r ⟨o + k.val, by omega⟩)) (r : Fin 2048) (k : ℕ) (hk : k < 256) :
    row y r k = wide x0 r (o + k) := by
  unfold row wide
  rw [dif_pos hk, dif_pos (by omega), hy]

/-- Sums over the places before a chunk and over the chunk's places join. -/
theorem sum_join (f g : ℕ → EReal) (o n : ℕ) (h : ∀ k < n, g k = f (o + k)) :
    (∑ k ∈ Finset.range n, g k) + ∑ k ∈ Finset.range o, f k = ∑ k ∈ Finset.range (o + n), f k := by
  rw [Finset.sum_range_add, add_comm]
  exact congrArg _ (Finset.sum_congr rfl fun k hk => h k (Finset.mem_range.mp hk))

section Chunks

variable (x0 : Vec Ideal S2048x1024 .f32) (hx0 : ∀ i, IsFin (x0 i))

/-- `y` is the chunk of `x0` that starts at column `o`. -/
def IsChunk (o : ℕ) (y : Vec Ideal S2048x256 .f32) : Prop :=
  ∃ ho : o + 256 ≤ 1024, ∀ (r : Fin 2048) (k : Fin 256), y (ix2 r k) = x0 (ix2 r ⟨o + k.val, by omega⟩)

/-- `b` and `d` hold each row's sums of logarithms and counts over the first `o` columns. -/
def Carries (o : ℕ) (b d : FVec Ideal S2048 .f32) : Prop :=
  ∀ r : Fin 2048, b (ix1 r) = ∑ k ∈ Finset.range o, lg (wide x0 r k) ∧ d (ix1 r) = ∑ k ∈ Finset.range o, neg (wide x0 r k)

variable {x0}

include hx0 in
/-- A chunk of finite numbers is finite. -/
theorem IsChunk.finite {o : ℕ} {y : Vec Ideal S2048x256 .f32} (h : IsChunk x0 o y) (i : S2048x256.Idx) : IsFin (y i) := by
  obtain ⟨ho, hy⟩ := h
  idx_vars i
  rw [hy]; exact hx0 _

include hx0 in
/-- The row of a finite block is finite by place. -/
theorem wide_finite (r : Fin 2048) (k : ℕ) (hk : k < 1024) : IsFin (wide x0 r k) := by
  unfold wide; rw [dif_pos hk]; exact hx0 _

include hu hx0 in
/-- A later chunk's sums and counts are those of the whole row so far. -/
theorem later_sums {o : ℕ} {y : Vec Ideal S2048x256 .f32} {b d : FVec Ideal S2048 .f32} (h : IsChunk x0 o y) (hc : Carries x0 o b d) (r : Fin 2048) (j : Fin 256) :
    k0_pay7 u b y (ix2 r j) = ∑ k ∈ Finset.range (o + (j.val + 1)), lg (wide x0 r k)
    ∧ k0_pay8 u d y (ix2 r j) = ∑ k ∈ Finset.range (o + (j.val + 1)), neg (wide x0 r k) := by
  have hf := h.finite hx0
  obtain ⟨ho, hy⟩ := h
  have hr : ∀ k < j.val + 1, row y r k = wide x0 r (o + k) := fun k hk => row_ld x0 y o ho hy r k (by omega)
  rw [pay7_at u hu y hf r j b, pay8_at u hu y r j d, (hc r).1, (hc r).2]
  exact ⟨sum_join (fun k => lg (wide x0 r k)) _ o _ fun k hk => congrArg lg (hr k hk),
    sum_join (fun k => neg (wide x0 r k)) _ o _ fun k hk => congrArg neg (hr k hk)⟩

include hu hx0 in
/-- What a later chunk hands on is those of the whole row through the chunk. -/
theorem later_carries {o : ℕ} {y : Vec Ideal S2048x256 .f32} {b d : FVec Ideal S2048 .f32} (h : IsChunk x0 o y) (hc : Carries x0 o b d) :
    Carries x0 (o + 256) (k0_pay9 u b y) (k0_pay10 u d y) := fun r => by
  rw [pay9_at, pay10_at]
  exact later_sums u hu hx0 h hc r 255

include hu hx0 in
/-- What a later chunk stores is the product of the row so far. -/
theorem later_store {o : ℕ} {y : Vec Ideal S2048x256 .f32} {b d : FVec Ideal S2048 .f32} (h : IsChunk x0 o y) (hc : Carries x0 o b d) (r : Fin 2048) (j : Fin 256) :
    k0_pay11 u b d y (ix2 r j) = ∏ k ∈ Finset.range (o + (j.val + 1)), wide x0 r k := by
  obtain ⟨h1, h2⟩ := later_sums u hu hx0 h hc r j
  obtain ⟨ho, -⟩ := h
  rw [pay11_at, h1, h2]
  exact signed_sums _ _ (by omega) fun k hk => wide_finite hx0 r k (by omega)

include hu hx0 in
/-- The first chunk's sums and counts. -/
theorem first_sums {y : Vec Ideal S2048x256 .f32} (h : IsChunk x0 0 y) (r : Fin 2048) (j : Fin 256) :
    k0_pay2 u y (ix2 r j) = ∑ k ∈ Finset.range (0 + (j.val + 1)), lg (wide x0 r k)
    ∧ k0_pay3 u y (ix2 r j) = ∑ k ∈ Finset.range (0 + (j.val + 1)), neg (wide x0 r k) := by
  have hf := h.finite hx0
  obtain ⟨ho, hy⟩ := h
  have hr : ∀ k < j.val + 1, row y r k = wide x0 r (0 + k) := fun k hk => row_ld x0 y 0 ho hy r k (by omega)
  rw [pay2_at u hu y hf r j, pay3_at u hu y r j]
  simp only [zero_add] at hr ⊢
  exact ⟨Finset.sum_congr rfl fun k hk => congrArg lg (hr k (Finset.mem_range.mp hk)),
    Finset.sum_congr rfl fun k hk => congrArg neg (hr k (Finset.mem_range.mp hk))⟩

include hu hx0 in
/-- What the first chunk hands on. -/
theorem first_carries {y : Vec Ideal S2048x256 .f32} (h : IsChunk x0 0 y) : Carries x0 (0 + 256) (k0_pay4 u y) (k0_pay5 u y) := fun r => by
  rw [pay4_at, pay5_at]
  exact first_sums u hu hx0 h r 255

include hu hx0 in
/-- What the first chunk stores. -/
theorem first_store {y : Vec Ideal S2048x256 .f32} (h : IsChunk x0 0 y) (r : Fin 2048) (j : Fin 256) :
    k0_pay6 u y (ix2 r j) = ∏ k ∈ Finset.range (0 + (j.val + 1)), wide x0 r k := by
  obtain ⟨h1, h2⟩ := first_sums u hu hx0 h r j
  rw [pay6_at, h1, h2]
  exact signed_sums _ _ (by omega) fun k hk => wide_finite hx0 r k (by omega)

end Chunks

/-- The chunks that the body loads. -/
theorem chunk0 (x0 : Vec Ideal S2048x1024 .f32) : IsChunk x0 0 (View.ld x0 r0_1) := ⟨by norm_num, fun r k => by pointwise [r0_1]; blk_ext⟩
theorem chunk1 (x0 : Vec Ideal S2048x1024 .f32) : IsChunk x0 (0 + 256) (View.ld x0 r0_2) := ⟨by norm_num, fun r k => by pointwise [r0_2]⟩
theorem chunk2 (x0 : Vec Ideal S2048x1024 .f32) : IsChunk x0 (0 + 256 + 256) (View.ld x0 r0_3) := ⟨by norm_num, fun r k => by pointwise [r0_3]⟩
theorem chunk3 (x0 : Vec Ideal S2048x1024 .f32) : IsChunk x0 (0 + 256 + 256 + 256) (View.ld x0 r0_4) := ⟨by norm_num, fun r k => by pointwise [r0_4]⟩

/-- The table as loaded is the table. -/
theorem ld_table (u : Vec Ideal S256x256 .bf16) : View.ld u r0_0 = u := by
  funext i; idx_vars i; pointwise [r0_0]

/-- THE BLOCK'S RESULT: the product of the row's numbers up to each place. -/
theorem block_eq (x0 : Vec Ideal S2048x1024 .f32) (u : Vec Ideal S256x256 .bf16) (hu : Tri u) (hx0 : ∀ i, IsFin (x0 i)) (y : S2048x1024.Idx) :
    out0_2 x0 u y = ∏ k ∈ Finset.range ((y 1).val + 1), wide x0 (y 0) k := by
  unfold_out out0_2
  rw [ld_table, pay1_eq, pay19_eq, pay20_eq, pay14_eq, pay15_eq]
  have c0 := first_carries u hu hx0 (chunk0 x0)
  have c1 := later_carries u hu hx0 (chunk1 x0) c0
  have c2 := later_carries u hu hx0 (chunk2 x0) c1
  canon_tiles z h
  · idx_vars z
    have e0 : y 0 = z0 := Fin.ext h0
    rw [e0, h1, Nat.add_assoc]
    exact later_store u hu hx0 (chunk3 x0) c2 z0 z1
  · idx_vars z
    have e0 : y 0 = z0 := Fin.ext h0
    rw [e0, h1, Nat.add_assoc]
    exact later_store u hu hx0 (chunk2 x0) c1 z0 z1
  · idx_vars z
    have e0 : y 0 = z0 := Fin.ext h0
    rw [e0, h1, Nat.add_assoc]
    exact later_store u hu hx0 (chunk1 x0) c0 z0 z1
  · idx_vars z
    have e0 : y 0 = z0 := Fin.ext h0
    rw [e0, h1]
    exact (first_store u hu hx0 (chunk0 x0) z0 z1).trans (by rw [zero_add])

end Cert.Block

end
-- ==== Proof.Table.lean ====
/- The kernel's second input: the host makes a triangular table of ones before the region starts. -/
module

public import proofs.«01_k».proof.Proof.Gen.KernelIdeal.Frame
public import proofs.«01_k».proof.Proof.Block
public import Idealize.ShloMosaic.Lib.StableHlo.Predicate
public import Idealize.ShloMosaic.Lib.StableHlo.RunClose
public import Idealize.ShloMosaic.Lib.StableHlo.RunRead

@[expose] public section

set_option maxRecDepth 16384

noncomputable section

namespace Cert.Table

open Idealize.ShloMosaic Idealize.ShloMosaic.TcCoe Idealize.ShloMosaic.StableHlo Idealize.SL.Sem
open Cert.KernelIdeal Cert.KernelIdeal.Gen Cert.Block

/-- The comparison that makes the table: row less one against column, as words. -/
theorem below (k j : Fin 256) :
    IntOp.cmpi .sge (IntOp.addi (BitVec.ofNat 32 k.val) 4294967295#32) (BitVec.ofNat 32 j.val) = BitVec.ofBool (decide (j.val < k.val)) := by
  have hk := k.isLt
  have hj := j.isLt
  have h1 : (IntOp.addi (BitVec.ofNat 32 k.val) 4294967295#32).toInt = (k.val : ℤ) - 1 := by
    unfold IntOp.addi
    rw [BitVec.toInt_add, Predicate.toInt_ofNat_small k.val (by omega), show (4294967295#32 : BitVec 32).toInt = -1 from by decide,
      Int.bmod_eq_of_le (by omega) (by omega)]
    omega
  show BitVec.ofBool ((BitVec.ofNat 32 j.val).sle (IntOp.addi (BitVec.ofNat 32 k.val) 4294967295#32)) = _
  rw [BitVec.sle_eq_decide, h1, Predicate.toInt_ofNat_small j.val (by omega)]
  exact congrArg BitVec.ofBool (decide_eq_decide.mpr (by omega))

/-- The triangular table as the host makes it: ones, and zeros where the row less one is at or past the column. -/
def hostTable : FVec Ideal S256x256 .bf16 :=
  select (cmpi .sge (addi (iotaInDim S256x256 32 0) (broadcastInDim S256x256 ![] bcast_S_S256x256 (constantI S_ 32 4294967295#32)))
      (iotaInDim S256x256 32 1))
    (broadcastInDim S256x256 ![] bcast_S_S256x256 (constant (F := Ideal) S_ .bf16 0x0000#16))
    (broadcastInDim S256x256 ![] bcast_S_S256x256 (constant (F := Ideal) S_ .bf16 0x3F80#16))

/-- The host's table is triangular. -/
theorem hostTable_tri : Tri hostTable := fun k j => by
  pointwise [hostTable]
  rw [below]
  by_cases h : k.val ≤ j.val
  · rw [if_pos h, decide_eq_false (by omega)]; rfl
  · rw [if_neg h, decide_eq_true (by omega)]; rfl

variable (m : (ℓ : Loc nD τ sig) → Buf (Elt Ideal) ℓ)

/-- The region starts with the host's table. -/
theorem V_table (c : Dev nD) : V m c main_v1 = hostTable := by
  show StableHlo.after (List.flatten [hostOps0, hostOps0_1]) (fun b => m (c, b)) (Proc.devRef .tc main_v1) = _
  simp only [hostOps0, hostOps0_1, List.flatten_cons, List.flatten_nil, List.append_nil, List.cons_append, List.nil_append]
  simp only [TRef.nullary, TRef.unary, TRef.binary, TRef.ternary]
  after_results_simp
  simp only [TRef.ofBuf_toBuf]
  simp -implicitDefEqProofs only [TRef.toBuf, TRef.ofBuf, cast_eq]
  rfl

/-- Every grid point is given the whole table. -/
theorem index_table : ∀ t : Fin cfg0.N, win0_1.index t = ![0, 0] := (by decide +kernel : ∀ t : Fin grid0.N, _)

/-- A block that is the whole array reads the array. -/
theorem whole (t : Fin cfg0.N) (T : FVec Ideal S256x256 .bf16) (k j : Fin 256) :
    ((((cfg0.win 1).blk t).view.read (Elt Ideal) T : FVec Ideal S256x256 .bf16)) (ix2 k j) = T (ix2 k j) := by
  blk_ext [index_table t]

/-- The table that a grid point is given is triangular. -/
theorem table_block (c : Dev nD) (t : Fin cfg0.N) : Tri (iblk m c 1 t) := fun k j => by
  have h : iblk m c 1 t = ((cfg0.win 1).blk t).view.read (Elt Ideal) hostTable := by
    unfold iblk
    exact congrArg _ (V_table m c)
  rw [h]
  exact (whole t hostTable k j).trans (hostTable_tri k j)

end Cert.Table

end
-- ==== Proof.Product.lean ====
/- The value that both programs are compared through: along each row of the array, the product of the numbers up to a place. -/
module

public import Idealize.ShloMosaic.PureOps.Ideal.Laws
public import Idealize.ShloMosaic.Lib.Pointwise

@[expose] public section

noncomputable section

namespace Cert.Product

open Idealize.ShloMosaic
open scoped BigOperators

/-- The numbers of row `i` of the array by place; past the end, one. -/
def line (x : FVec Ideal ⟨2, ![16384, 1024]⟩ .f32) (i : Fin 16384) (k : ℕ) : EReal := if h : k < 1024 then x (ix2 i ⟨k, h⟩) else 1

/-- The array of products: at row `i` and place `j`, the product of the row's numbers at the places up to `j`. -/
def prods (x : FVec Ideal ⟨2, ![16384, 1024]⟩ .f32) : FVec Ideal ⟨2, ![16384, 1024]⟩ .f32 :=
  fun y => ∏ k ∈ Finset.range ((y 1).val + 1), line x (y 0) k

/-- The array of products at a row and a place. -/
theorem prods_at (x : FVec Ideal ⟨2, ![16384, 1024]⟩ .f32) (i : Fin 16384) (j : Fin 1024) :
    prods x (ix2 i j) = ∏ k ∈ Finset.range (j.val + 1), line x i k := rfl

end Cert.Product

end
-- ==== Proof.Array.lean ====
/- What the kernel leaves in its result array: the eight blocks of 2048 rows cover it, and each holds the products along its rows. -/
module

public import proofs.«01_k».proof.Proof.Gen.KernelIdeal.Value
public import proofs.«01_k».proof.Proof.Table
public import proofs.«01_k».proof.Proof.Product

@[expose] public section

set_option maxRecDepth 16384

noncomputable section

namespace Cert.Array

open Idealize.ShloMosaic Idealize.ShloMosaic.TcCoe Idealize.SL.Sem
open Cert.KernelIdeal Cert.KernelIdeal.Gen Cert.KernelIdeal.Value Cert.Scalar Cert.Block Cert.Table Cert.Product
open scoped BigOperators

/-- Which blocks a grid point reads and writes: the block of rows of its own number. -/
theorem idx : ∀ t : Fin cfg0.N, win0_0.index t = ![t.val, 0] ∧ win0_2.index t = ![t.val, 0] ∧ t.val < 8 :=
  (by decide +kernel : ∀ t : Fin grid0.N, _)

/-- A place of the block of rows that a grid point reads, in the array. -/
theorem rows (t : Fin cfg0.N) (x : FVec Ideal S16384x1024 .f32) (r : Fin 2048) (k : Fin 1024) (i : Fin 16384) (hi : i.val = t.val * 2048 + r.val) :
    ((((cfg0.win 0).blk t).view.read (Elt Ideal) x : FVec Ideal S2048x1024 .f32)) (ix2 r k) = x (ix2 i k) := by
  blk_ext [idx t]

/-- The numbers of a row of the block are those of the array's row. -/
theorem wide_line (t : Fin cfg0.N) (x : FVec Ideal S16384x1024 .f32) (r : Fin 2048) (i : Fin 16384) (hi : i.val = t.val * 2048 + r.val) (k : ℕ) :
    wide (((cfg0.win 0).blk t).view.read (Elt Ideal) x) r k = line x i k := by
  unfold wide line
  by_cases h : k < 1024
  · rw [dif_pos h, dif_pos h]; exact rows t x r ⟨k, h⟩ i hi
  · rw [dif_neg h, dif_neg h]

/-- The block of a finite array is finite. -/
theorem rows_finite (t : Fin cfg0.N) (x : FVec Ideal S16384x1024 .f32) (hx : ∀ i, IsFin (x i)) (i : S2048x1024.Idx) :
    IsFin ((((cfg0.win 0).blk t).view.read (Elt Ideal) x : FVec Ideal S2048x1024 .f32) i) := by
  have ht := (idx t).2.2
  idx_vars i
  rw [rows t x i0 i1 ⟨t.val * 2048 + i0.val, by omega⟩ rfl]
  exact hx _

/-- One point: what the body leaves in the result's block is the array of products there. -/
theorem point (t : Fin cfg0.N) (x : FVec Ideal S16384x1024 .f32) (hx : ∀ i, IsFin (x i)) (u : FVec Ideal S256x256 .bf16) (hu : Tri u) (y : S2048x1024.Idx) :
    out0_2 (((cfg0.win 0).blk t).view.read (Elt Ideal) x) u y = prods x ((win0_2.blk t).view.emb y) := by
  have ht := (idx t).2.2
  have hy : (y 0).val < 2048 := (y 0).isLt
  refine (block_eq _ u hu (rows_finite t x hx) y).trans ?_
  have e : (win0_2.blk t).view.emb y = ix2 (⟨t.val * 2048 + (y 0).val, by omega⟩ : Fin 16384) (y 1) := by blk_ext [idx t]
  refine Eq.trans ?_ (congrArg (prods x) e).symm
  exact Finset.prod_congr rfl fun k _ => wide_line t x (y 0) _ rfl k

variable (m : (ℓ : Loc nD τ sig) → Buf (Elt Ideal) ℓ)

/-- THE KERNEL'S RESULT is the array of products, when its argument is finite. -/
theorem final (c : Dev nD) (x : FVec Ideal S16384x1024 .f32) (e : m ((c : Thread nD τ).loc main_arg0) = x) (hx : ∀ i, IsFin (x i)) :
    (dats m 0 c).arrAt 2 cfg0.N = prods x := by
  refine (dats m 0 c).arrAt_eq_of_covers 2 _ (by decide +kernel) fun t _ y => ?_
  blk_simp
  rw [after0_2]
  have h : iblk m c 0 t = ((cfg0.win 0).blk t).view.read (Elt Ideal) x := by
    unfold iblk
    exact congrArg _ ((V_main_arg0 m c).trans e)
  rw [h]
  exact point t x hx _ (table_block m c t) y

end Cert.Array

end
-- ==== Proof.Finite.lean ====
/- What the precondition says of the argument: every number of it is a finite real. -/
module

public import proofs.«01_k».proof.Proof.Gen.Pre_finite_inputs
public import proofs.«01_k».proof.Proof.Scalar
public import Idealize.ShloMosaic.Lib.Pointwise
public import Idealize.ShloMosaic.Lib.ReduceAll

@[expose] public section

noncomputable section

namespace Cert.Finite

open Idealize.ShloMosaic Cert.Pre_finite_inputs Cert.Scalar

/-- The bit pattern of plus infinity reads as plus infinity. -/
theorem inf_word : Ideal.ofBits .f32 0x7F800000#32 = ⊤ := by
  simp [Ideal.ofBits, Ideal.ieee, -EReal.coe_mul]

/-- A number whose magnitude is below plus infinity is a finite real. -/
theorem finite_of_abs_lt (x : EReal) (h : max x (-x) < ⊤) : IsFin x := by
  induction x using EReal.rec with
  | bot => exact absurd h (by simp)
  | coe r => exact ⟨r, rfl⟩
  | top => exact absurd h (by simp)

/-- The precondition holds exactly of arrays of finite reals; here the direction that is used. -/
theorem finite_of_pre (x : FVec Ideal S16384x1024 .f32) (h : Cert.Pre_finite_inputs.fn (F := Ideal) x = fun _ => 1#1) (i : S16384x1024.Idx) :
    IsFin (x i) := by
  have hs : Subsingleton S_.Idx := ⟨fun a b => funext fun k => k.elim0⟩
  have h0 := congrFun h (Shape.Idx.first Facts.h_S_)
  unfold Cert.Pre_finite_inputs.fn at h0
  have h1 := Host.reduce_andi_all _ _ _ _ _ h0 i
  refine finite_of_abs_lt (x i) ?_
  rw [← inf_word]
  have h2 : BitVec.ofBool (decide (max (x i) (-(x i)) < Ideal.ofBits .f32 0x7F800000#32)) = 1#1 := h1
  revert h2
  by_cases hc : max (x i) (-(x i)) < Ideal.ofBits .f32 0x7F800000#32
  · exact fun _ => hc
  · rw [decide_eq_false hc]; exact fun h => absurd h (by decide)

end Cert.Finite

end
-- ==== Proof.Scan.lean ====
/- What the reference computes: after `n` trips of its loop the running product of each row covers `n` places, and the first `n`
   columns of the result hold the products up to them. -/
module

public import proofs.«01_k».proof.Proof.Gen.ReferenceIdeal.Run
public import proofs.«01_k».proof.Proof.Product
public import Idealize.ShloMosaic.Lib.Pipeline.ValueKit
public import Idealize.ShloMosaic.Lib.StableHlo.Predicate
public import Idealize.ShloMosaic.Lib.WordCmp

@[expose] public section

set_option maxRecDepth 65536

noncomputable section

namespace Cert.Scan

open Idealize.ShloMosaic Idealize.ShloMosaic.TcCoe Idealize.ShloMosaic.StableHlo Idealize.SL.Sem
open Cert.ReferenceIdeal Cert.ReferenceIdeal.Gen Cert.ReferenceIdeal.Value Cert.Product
open scoped BigOperators

/-- The starts of the slices at trip `n`: row `n`, from its first place on. -/
theorem starts (n : ℕ) (hn : n < 1024) (a : Fin S1024x16384.rank) :
    ((![constantI S_ 32 (BitVec.ofNat 32 n), constantI S_ 32 0#32] : Fin 2 → IVec S_ 32) a (Shape.Idx.first h_S_)).toInt = ((![n, 0] : Fin 2 → ℕ) a : ℤ) := by
  fin_cases a
  · show (BitVec.ofNat 32 n).toInt = (n : ℤ)
    exact Predicate.toInt_ofNat_small n (by omega)
  · rfl

/-- Row `n` is a row of the array. -/
theorem slices (n : ℕ) (hn : n < 1024) : S1024x16384.Slices ![n, 0] S1x16384 := by
  refine ⟨rfl, fun a => ?_⟩
  fin_cases a
  · show n + 1 ≤ 1024; omega
  · show 0 + 16384 ≤ 16384; omega

/-- What the carried values are after `n` trips, for the argument `x`. -/
structure After (x : FVec Ideal S16384x1024 .f32) (n : ℕ) (arg : FVec Ideal S1024x16384 .f32) (count : IVec S_ 32)
    (prod : FVec Ideal S16384 .f32) (out : FVec Ideal S1024x16384 .f32) : Prop where
  arg_at : ∀ (k : Fin 1024) (i : Fin 16384), arg (ix2 k i) = x (ix2 i k)
  count_eq : count = constantI S_ 32 (BitVec.ofNat 32 n)
  prod_at : ∀ i : Fin 16384, prod (ix1 i) = ∏ k ∈ Finset.range n, line x i k
  out_at : ∀ (k : Fin 1024) (i : Fin 16384), k.val < n → out (ix2 k i) = ∏ k' ∈ Finset.range (k.val + 1), line x i k'

/-- The carried values of a valuation are those after `n` trips. -/
abbrev At (x : FVec Ideal S16384x1024 .f32) (n : ℕ) (W : Valuation τ sig (Elt Ideal)) : Prop :=
  After x n (W (Proc.devRef .tc main_v3_0)) (W (Proc.devRef .tc main_v3_1)) (W (Proc.devRef .tc main_v3_2)) (W (Proc.devRef .tc main_v3_3))

/-- Before the first trip: the transposed argument, zero, ones, anything. -/
theorem first (x : FVec Ideal S16384x1024 .f32) (out : FVec Ideal S1024x16384 .f32) :
    After x 0 (transpose S1024x16384 [1, 0] x transposes_S16384x1024_S1024x16384_1_0) (constantI S_ 32 0#32)
      (broadcastInDim S16384 ![] bcast_S_S16384 (constant (F := Ideal) S_ .f32 0x3F800000#32)) out where
  arg_at k i := by pointwise
  count_eq := rfl
  prod_at i := by
    rw [Finset.range_zero, Finset.prod_empty]
    pointwise
  out_at k i h := absurd h (Nat.not_lt_zero _)

/-- The product of the next trip: the row's number at the trip's place multiplied on. -/
theorem next_prod {x : FVec Ideal S16384x1024 .f32} {n : ℕ} (hn : n < 1024) {arg : FVec Ideal S1024x16384 .f32} {count : IVec S_ 32}
    {prod : FVec Ideal S16384 .f32} {out : FVec Ideal S1024x16384 .f32} (h : After x n arg count prod out) (i : Fin 16384) :
    (mulf prod (shapeCast S16384 (Host.dynamicSlice S1x16384 arg (fun a => ((![count, constantI S_ 32 0#32] : Fin 2 → IVec S_ 32) a (Shape.Idx.first h_S_)).toInt)
      sliceFits_S1024x16384_S1x16384) shapeCasts_S1x16384_S16384)) (ix1 i) = ∏ k ∈ Finset.range (n + 1), line x i k := by
  obtain ⟨h1, rfl, h3, h4⟩ := h
  rw [Finset.prod_range_succ, ← h3 i, WordCmp.dynamicSlice_eq_extract S1x16384 arg _ _ ![n, 0] (slices n hn) (starts n hn)]
  pointwise
  rw [h1]
  unfold line
  rw [dif_pos hn]

/-- The next trip's values. -/
theorem next {x : FVec Ideal S16384x1024 .f32} {n : ℕ} (hn : n < 1024) {arg : FVec Ideal S1024x16384 .f32} {count : IVec S_ 32}
    {prod : FVec Ideal S16384 .f32} {out : FVec Ideal S1024x16384 .f32} (h : After x n arg count prod out) (p : FVec Ideal S16384 .f32)
    (hp : ∀ i : Fin 16384, p (ix1 i) = ∏ k ∈ Finset.range (n + 1), line x i k) :
    After x (n + 1) arg (addi count (constantI S_ 32 1#32)) p
      (Host.dynamicUpdateSlice out (broadcastInDim S1x16384 ![1] bcast_S16384_S1x16384_1 p)
        (fun a => ((![count, constantI S_ 32 0#32] : Fin 2 → IVec S_ 32) a (Shape.Idx.first h_S_)).toInt) updateFits_S1024x16384_S1x16384) := by
  obtain ⟨h1, rfl, h3, h4⟩ := h
  refine ⟨h1, ?_, hp, fun k i hk => ?_⟩
  · funext z
    show BitVec.ofNat 32 n + 1#32 = BitVec.ofNat 32 (n + 1)
    rw [BitVec.ofNat_add]
  · rw [WordCmp.dynamicUpdateSlice_eq_update out _ _ _ ![n, 0] (slices n hn) (starts n hn)]
    pointwise
    by_cases hin : n ≤ k.val ∧ k.val < n + 1
    · rw [dif_pos hin, hp, show k.val = n by omega]
    · rw [dif_neg hin]; exact h4 k i (by omega)

variable (m : (ℓ : Loc nD τ sig) → Buf (Elt Ideal) ℓ)

/-- The loop starts from the first values. -/
theorem entry (c : Dev nD) : At (m ((c.tc : Thread nD τ).loc main_arg0)) 0 (entryContents preI m c) := by
  unfold At
  simp only [entryContents, afterL_cons, afterL_nil]
  after_reads_simp
  exact first _ _

/-- After `n` trips. -/
theorem trips (c : Dev nD) : ∀ n ≤ 1024, At (m ((c.tc : Thread nD τ).loc main_arg0)) n (STEP^[n] (entryContents preI m c))
  | 0, _ => entry m c
  | n + 1, hn => by
    have h := trips c n (by omega)
    rw [Function.iterate_succ_apply']
    unfold At
    rw [STEP_main_v3_0, STEP_main_v3_1, STEP_main_v3_2, STEP_main_v3_3]
    exact next (by omega) h _ fun i => next_prod (by omega) h i

/-- THE REFERENCE'S RESULT is the array of products. -/
theorem result (c : Dev nD) : out_main_v4 (STEP^[1024] (entryContents preI m c)) = prods (m ((c.tc : Thread nD τ).loc main_arg0)) := by
  have h := trips m c 1024 le_rfl
  funext y
  idx_vars y
  exact (by pointwise [out_main_v4] : out_main_v4 (STEP^[1024] (entryContents preI m c)) (ix2 y0 y1) = _).trans (h.out_at y1 y0 y1.isLt)

end Cert.Scan

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite_inputs
public import proofs.«01_k».proof.Proof.Array
public import proofs.«01_k».proof.Proof.Finite
public import proofs.«01_k».proof.Proof.Scan
public import Idealize.ShloMosaic.Adequacy
public import Idealize.ShloMosaic.Init

@[expose] public section

noncomputable section

namespace Cert.Proof

open Idealize.ShloMosaic Idealize.ShloMosaic.TcCoe Idealize.SL.Sem

/-- The reference runs, leaves its argument unchanged, and ends with every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The two named constants have the values the table gives them, and the half-word cut is the format change. -/
theorem preserves : preserves_Kernel_KernelIdeal :=
  ⟨IdealRules.named_const.statement _ _ _ _ _ rfl, IdealRules.named_const.statement _ _ _ _ _ rfl, IdealRules.bf16_pack.statement _⟩

/-- On finite arguments the kernel and the reference both end with the array of products along the rows. -/
theorem algebraic : algebraic_KernelIdeal_ReferenceIdeal_pre_finite_inputs := by
  intro m g m' g' hpre hagree
  refine ⟨fun c => Cert.Product.prods (m ((c : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩) (Cert.KernelIdeal.Value.run_blocks m g)
    exact Cert.Array.final m c _ rfl (Cert.Finite.finite_of_pre _ (hpre c))
  · refine (θ_run Cert.ReferenceIdeal.defs _ _).mono (fun r h c => ⟨(h c).1.trans ?_, (h c).2⟩) (Cert.ReferenceIdeal.Value.run m' g')
    rw [Cert.Scan.result m' c]
    exact congrArg Cert.Product.prods (hagree c)

theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g, fun m g _ => Cert.KernelIdeal.Gen.frame m g, fun m g _ => Cert.KernelIdeal.Gen.frame m g,
    fun m g _ => frame_reference m g, fun m g _ => frame_reference m g, preserves, algebraic⟩

end Cert.Proof

end
